-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_stays_Kernel [hPre_pi_stays_Kernel : Cert.Pre_pi_stays_Kernel.Facts] (m : (ℓ : Loc Cert.Kernel.nD Cert.Kernel.τ Cert.Kernel.sig) → Buf (Elt Bits) ℓ) : Prop :=
  ∀ c : Dev Cert.Kernel.nD,
    (Cert.Pre_pi_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_stays_Kernel [hPre_pi_stays_Kernel : Cert.Pre_pi_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_stays_ReferenceIdeal [hPre_pi_stays_ReferenceIdeal : Cert.Pre_pi_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_stays_Kernel [hKernel : Cert.Kernel.Facts] [hPre_pi_stays_Kernel : Cert.Pre_pi_stays_Kernel.Facts] : Prop :=
  ∀ (m : (ℓ : Loc Cert.Kernel.nD Cert.Kernel.τ Cert.Kernel.sig) → Buf (Elt Bits) ℓ) (g : Dev Cert.Kernel.nD → PrngReg), Pre_Kernel_pi_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_stays_Kernel [hKernelIdeal : Cert.KernelIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_stays_ReferenceIdeal [hReferenceIdeal : Cert.ReferenceIdeal.Facts] [hPre_pi_stays_ReferenceIdeal : Cert.Pre_pi_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_stays_Kernel [hKernelIdeal : Cert.KernelIdeal.Facts] [hReferenceIdeal : Cert.ReferenceIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_stays_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_stays_Kernel : Cert.Pre_pi_stays_Kernel.Facts) (hPre_pi_swaps_ReferenceIdeal : Cert.Pre_pi_swaps_ReferenceIdeal.Facts) (hPre_pi_stays_ReferenceIdeal : Cert.Pre_pi_stays_ReferenceIdeal.Facts),
    quiescent_Kernel (hKernel := hKernel) (hPre_pi_swaps_Kernel := hPre_pi_swaps_Kernel)
    ∧ quiescent_Kernel_pre_pi_stays_Kernel (hKernel := hKernel) (hPre_pi_stays_Kernel := hPre_pi_stays_Kernel)
    ∧ quiescent_KernelIdeal (hKernelIdeal := hKernelIdeal) (hPre_pi_swaps_Kernel := hPre_pi_swaps_Kernel)
    ∧ quiescent_KernelIdeal_pre_pi_stays_Kernel (hKernelIdeal := hKernelIdeal) (hPre_pi_stays_Kernel := hPre_pi_stays_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_stays_ReferenceIdeal (hReferenceIdeal := hReferenceIdeal) (hPre_pi_stays_ReferenceIdeal := hPre_pi_stays_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_stays_Kernel (hKernelIdeal := hKernelIdeal) (hReferenceIdeal := hReferenceIdeal) (hPre_pi_stays_Kernel := hPre_pi_stays_Kernel)
-- ==== Pre_pi_stays_Kernel.lean ====
abbrev S1x4096x2048 : Shape := ⟨3, ![1, 4096, 2048]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x4096x2048 .f32) (main_arg1 : IVec S2 32) : IVec S2 1 :=
  let main_c : IVec S2 32 := fun i => lit0 (S2.rowMajor i)
  let main_v0 : IVec S2 1 := cmpi .eq main_arg1 main_c
  main_v0
-- ==== Pre_pi_stays_ReferenceIdeal.lean ====
abbrev S2x4096x2048 : Shape := ⟨3, ![2, 4096, 2048]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x4096x2048 .f32) (main_arg1 : IVec S2 32) : IVec S2 1 :=
  let main_c : IVec S2 32 := fun i => lit0 (S2.rowMajor i)
  let main_v0 : IVec S2 1 := cmpi .eq main_arg1 main_c
  main_v0
-- ==== Pre_pi_swaps_Kernel.lean ====
abbrev S1x4096x2048 : Shape := ⟨3, ![1, 4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x4096x2048 .f32) (main_arg1 : IVec S2 32) : IVec S2 1 :=
  let main_c : IVec S2 32 := fun i => lit0 (S2.rowMajor i)
  let main_v0 : IVec S2 1 := cmpi .eq main_arg1 main_c
  main_v0
-- ==== Pre_pi_swaps_ReferenceIdeal.lean ====
abbrev S2x4096x2048 : Shape := ⟨3, ![2, 4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x4096x2048 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x4096x2048 : Shape := ⟨3, ![1, 4096, 2048]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32 : BitVec 32 := 0#32
  let c4_i32_4 : BitVec 32 := 4#32
  let v12 : BitVec 32 := Scalar.muli v10 c4_i32_4
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v14 : BitVec 32 := Scalar.muli v5 c2_i32_5
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v16 : BitVec 32 := Scalar.muli v8 c1_i32_6
  let v17 : BitVec 32 := Scalar.addi v15 v16
  v17.toNat

def k0_dev2 (d0 : Dev nD) (v10 : BitVec 32) : Nat :=
  let c0_i32_9 : BitVec 32 := 0#32
  let c4_i32_8 : BitVec 32 := 4#32
  let v18 : BitVec 32 := Scalar.muli v10 c4_i32_8
  let v19 : BitVec 32 := Scalar.addi c0_i32_9 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v20 : BitVec 32 := Scalar.muli v5 c2_i32_10
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v22 : BitVec 32 := Scalar.muli v8 c1_i32_11
  let v23 : BitVec 32 := Scalar.addi v21 v22
  v23.toNat

def k0_chk1 (d0 : Dev nD) (v10 : BitVec 32) : Prop :=
  ((k0_dev1 d0 v10) < nD) ∧
  ((k0_dev2 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev2_lt : ∀ (d0 : Dev nD) (v10 : BitVec 32) (k0_hw1 : k0_chk1 d0 v10), (k0_dev2 d0 v10) < nD := fun d0 v10 k0_hw1 => k0_hw1.2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.ProtocolIdeal.lean ====
/-
# The run of the permutation kernel `KernelIdeal`

Eight devices on a 2 x 2 x 2 mesh; device `c` sits at `(c / 4, c / 2 % 2, c % 2)`. Each device looks its place on the
first axis up in its table `pi`, and so learns its PARTNER: the device of the same place on the other two axes whose
place on the first axis is the word it read. It then

1. signals its partner's barrier semaphore ("my result buffer is free"),
2. waits for one unit on its own barrier semaphore,
3. copies its block of `x` whole into its partner's result buffer,
4. waits until that copy has left, and until the copy meant for itself has arrived.

A table of two places is either the exchange or the identity, so the partner's partner is the device itself: the unit a
device waits for comes from the very device it is going to write to. The Boolean `sw` below says which of the two it
is, and everything is proved for both at once, at any float values.

Each device has three semaphores, each used once. What is handed over with each:

* barrier: one unit, from the partner, with it the partner's result buffer (contents of no interest);
* receive: the credit of a whole block, from the partner's copy, with it the device's own result buffer, now holding the
  partner's block of `x`;
* send: the same credit, from the device's own copy, with it its block of `x` back.

Waits cannot block one another in a circle: a device waiting on its barrier owes only a receive credit, and a device
waiting on its send or receive semaphore owes nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own accounts, and those of the three semaphores above. -/
abbrev Acct : Type := UR sig nD τ × URounds (GSem nD τ sig) Unit

local notation "𝕄" => MT nD τ sig Unit (Elt F) ℕ Acct ℕ

abbrev pipeE : Emb (UR sig nD τ) (MT nD τ sig Unit (Elt F) ℕ Acct ℕ) := embL
abbrev permE : Emb (URounds (GSem nD τ sig) Unit) (MT nD τ sig Unit (Elt F) ℕ Acct ℕ) := embR

variable (sw : Bool) (m : (ℓ : Loc nD τ sig) → Buf (Elt F) ℓ) (ρ : Dev nD → PrngReg)

/-! ## Partners -/

set_option backward.proofsInPublic true in
/-- The device that `c` sends to: across the first axis if the table exchanges the two places, itself if not. -/
def partner (sw : Bool) (c : Dev nD) : Dev nD := if sw then ⟨(c.val + 4) % 8, Nat.mod_lt _ (by decide)⟩ else c

theorem partner_partner (c : Dev nD) : partner sw (partner sw c) = c := by revert c sw; decide

def partners : Dev nD ≃ Dev nD := ⟨partner sw, partner sw, partner_partner sw, partner_partner sw⟩

theorem eq_partner_comm {c d : Dev nD} : Iff (c = partner sw d) (d = partner sw c) :=
  ⟨fun h => by rw [h, partner_partner], fun h => by rw [h, partner_partner]⟩

/-! ## The table -/

/-- A device's place on the first axis, as an index of the table. -/
def place (c : Dev nD) : S2.Idx := fun a => ⟨c.val / 4, by have : c.val < 8 := c.isLt; fin_cases a; show c.val / 4 < 2; omega⟩

/-- The tables all name the partners of `sw`: what the precondition gives. -/
def TableOK : Prop :=
  ∀ c : Dev nD, (m ((c : Thread nD τ).loc main_arg1) : IVec S2 32) (place c) = BitVec.ofNat 32 ((partner sw c).val / 4)

/-- The table as the pipeline stages it. -/
def table (c : Dev nD) : (cc0_stg0_0 : Ref sig .tc).ty.Contents (Elt F) :=
  (win0_0.blk (0 : Fin 1)).view.read (Elt F) (m ((c : Thread nD τ).loc main_arg1))

abbrev piRect (c : Dev nD) : Rect S2 := Rect.unit (s := S2) (k0_off1 c) S1.size (k0_off1_inb c)
/-- The word that device `c` reads of it. -/
abbrev word (c : Dev nD) : BitVec 32 :=
  ((Memref.whole cc0_stg0_0).access (piRect c) : View sig .tc _ _ _).read (Elt F) (table m c) (Shape.Idx.first (s := S1) (numel1_S1.symm ▸ Nat.one_pos))

omit [FloatOps F] in
theorem word_eq (c : Dev nD) : word m c = (m ((c : Thread nD τ).loc main_arg1) : IVec S2 32) (place c) := by
  show m ((c : Thread nD τ).loc main_arg1) _ = _
  refine congrArg _ (funext fun a => Fin.ext ?_)
  fin_cases a; fin_cases c <;> rfl

theorem dev1_partner (c : Dev nD) : k0_dev1 c (BitVec.ofNat 32 ((partner sw c).val / 4)) = (partner sw c).val := by
  revert c sw; decide
theorem dev2_partner (c : Dev nD) : k0_dev2 c (BitVec.ofNat 32 ((partner sw c).val / 4)) = (partner sw c).val := by
  revert c sw; decide

variable {sw m} in
theorem TableOK.dev1 (h : TableOK sw m) (c : Dev nD) : k0_dev1 c (word m c) = (partner sw c).val := by
  rw [word_eq, h c]; exact dev1_partner sw c
variable {sw m} in
theorem TableOK.dev2 (h : TableOK sw m) (c : Dev nD) : k0_dev2 c (word m c) = (partner sw c).val := by
  rw [word_eq, h c]; exact dev2_partner sw c
variable {sw m} in
/-- The word names a device of the mesh, so the body's check of it passes. -/
theorem TableOK.chk (h : TableOK sw m) (c : Dev nD) : k0_chk1 c (word m c) :=
  ⟨by rw [h.dev1 c]; exact (partner sw c).isLt, by rw [h.dev2 c]; exact (partner sw c).isLt⟩

/-! ## Buffers and semaphores -/

abbrev piM : Memref sig .tc .smem S2 .i32 := Memref.whole cc0_stg0_0
abbrev xM : Memref sig .tc .hbm S1x4096x2048 .f32 := Memref.whole main_arg0
abbrev outM : Memref sig .tc .hbm S1x4096x2048 .f32 := Memref.whole main_v1

abbrev barS : Sem sig := (SemArray.scalar (sig.barrier 0 rfl) : Sems sig S_).sem
abbrev sendS : DmaSem sig := cc0_scratch0.sem
abbrev recvS : DmaSem sig := cc0_scratch1.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The two that belong to the kernel, -/
abbrev ownSem : Fin 2 → SemLoc sig := fun | 0 => .dma sendS | 1 => .dma recvS
/-- and all three: barrier, send, receive. -/
abbrev semOf : Fin 3 → SemLoc sig := fun | 0 => .reg barS | 1 => .dma sendS | 2 => .dma recvS
abbrev cellAt (ck : Dev nD × Fin 3) : GSem nD τ sig := ((ck.1 : Thread nD τ), semOf ck.2)

/-- The credit of a whole block. -/
abbrev N : ℕ := (outM : Memref sig .tc .hbm S1x4096x2048 .f32).view.dmaCredit
theorem N_pos : 0 < N := View.dmaCredit_pos _ (by decide)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-- Device `c`'s block of `x`, as launched. -/
abbrev xOf (c : Dev nD) : Buf (Elt F) ((c : Thread nD τ).loc main_arg0) := m ((c : Thread nD τ).loc main_arg0)
/-- What its result buffer ends holding: its partner's block. -/
def resultOf (c : Dev nD) : Buf (Elt F) ((c : Thread nD τ).loc main_v1) := xOf m (partner sw c)

/-- Device `c`'s block of `x` in place; its result buffer at contents `f`. -/
def xAt (c : Dev nD) : sProp 𝕄 := ((c : Thread nD τ).loc main_arg0) ↦{fullShare} xOf m c
def outAt (c : Dev nD) (f : Buf (Elt F) ((c : Thread nD τ).loc main_v1)) : sProp 𝕄 := ((c : Thread nD τ).loc main_v1) ↦{fullShare} f

omit [FloatOps F] in
instance xAt_storable (c : Dev nD) : BI.Storable (upEmb : UEmb _ 𝕄) (xAt (F := F) m c) := by unfold xAt; infer_instance
omit [FloatOps F] in
instance outAt_storable (c : Dev nD) (f) : BI.Storable (upEmb : UEmb _ 𝕄) (outAt (F := F) c f) := by unfold outAt; infer_instance

omit [FloatOps F] in
theorem xAt_view (c : Dev nD) : xAt m c
    = ((xM : Memref sig .tc .hbm S1x4096x2048 .f32).view.loc (c : Thread nD τ) ↦[(xM : Memref sig .tc .hbm S1x4096x2048 .f32).view.set]{fullShare} xOf m c : sProp 𝕄) := by
  unfold xAt; rw [View.set_whole]
omit [FloatOps F] in
theorem outAt_view (c : Dev nD) (f : Buf (Elt F) ((c : Thread nD τ).loc main_v1)) : outAt c f
    = ((outM : Memref sig .tc .hbm S1x4096x2048 .f32).view.loc (c : Thread nD τ) ↦[(outM : Memref sig .tc .hbm S1x4096x2048 .f32).view.set]{fullShare} f : sProp 𝕄) := by
  unfold outAt; rw [View.set_whole]

omit [FloatOps F] in
/-- A whole block copied over a whole buffer leaves the block. -/
theorem copy_eq (fd : (main_v1 : Ref sig .tc).ty.Contents (Elt F)) (fs : (main_arg0 : Ref sig .tc).ty.Contents (Elt F)) :
    (outM : Memref sig .tc .hbm S1x4096x2048 .f32).view.write (Elt F) fd ((xM : Memref sig .tc .hbm S1x4096x2048 .f32).view.read (Elt F) fs) Finset.univ = fs := by
  show (View.whole main_v1).write (Elt F) fd ((View.whole main_arg0).read (Elt F) fs) Finset.univ = fs
  rw [View.read_whole]
  exact View.write_whole_univ _ _ _

/-! ## What each semaphore carries -/

/-- With the partner's unit: its result buffer, and that its receive semaphore is still at its only round. -/
def barGift (c : Dev nD) : sProp 𝕄 := iprop((∃ f, outAt (partner sw c) f) ∗ reached permE (recvCell (partner sw c)) 0)

abbrev Used (g : GSem nD τ sig) : Prop := g.1.2 = .tc ∧ (g.2 = .reg barS ∨ g.2 = .dma sendS ∨ g.2 = .dma recvS)

/-- One round for each of the three semaphores of each device, with one payment in it. -/
def plan : Rounds.Schedule (GSem nD τ sig) Unit 𝕄 where
  duties g r := if r = 0 ∧ Used g then {()} else ∅
  unitless _ := False
  amount g _ _ := if g.2 = .reg barS then 1 else N
  payload g _ _ :=
    if g.2 = .reg barS then barGift sw g.1.1
    else if g.2 = .dma sendS then xAt m g.1.1
    else outAt g.1.1 (resultOf sw m g.1.1)
  amount_pos g _ _ _ := by
    split
    · exact Nat.one_pos
    · exact N_pos

instance plan_storable (g : GSem nD τ sig) (r : ℕ) (d : Unit) : BI.Storable (upEmb : UEmb _ 𝕄) ((plan (F := F) sw m).payload g r d) := by
  show BI.Storable upEmb (if g.2 = .reg barS then barGift sw g.1.1 else if g.2 = .dma sendS then xAt m g.1.1 else outAt g.1.1 (resultOf sw m g.1.1))
  unfold barGift
  (repeat' split) <;> infer_instance

section Plan
variable (c : Dev nD)

omit [FloatOps F] in
theorem plan_duties (k : Fin 3) : (plan (F := F) sw m).duties (cellAt (c, k)) 0 = {()} := by
  refine if_pos ⟨rfl, rfl, ?_⟩
  fin_cases k
  · exact .inl rfl
  · exact .inr (.inl rfl)
  · exact .inr (.inr rfl)
omit [FloatOps F] in
theorem plan_over (g : GSem nD τ sig) : ∀ r, 1 ≤ r → (plan (F := F) sw m).duties g r = ∅ :=
  fun r hr => if_neg fun h => by omega

/-- The amount paid on each semaphore. -/
def amt : Fin 3 → ℕ := fun | 0 => 1 | 1 => N | 2 => N
/-- What comes with it. -/
def gift : Fin 3 → sProp 𝕄 := fun | 0 => barGift sw c | 1 => xAt m c | 2 => outAt c (resultOf sw m c)

omit [FloatOps F] in
theorem plan_amount (k : Fin 3) (d : Unit) : (plan (F := F) sw m).amount (cellAt (c, k)) 0 d = amt k := by
  show (if semOf k = .reg barS then 1 else N) = amt k
  fin_cases k
  · exact if_pos rfl
  · exact if_neg send_ne_bar
  · exact if_neg recv_ne_bar
omit [FloatOps F] in
theorem plan_payload (k : Fin 3) (d : Unit) : (plan (F := F) sw m).payload (cellAt (c, k)) 0 d = gift sw m c k := by
  show (if semOf k = .reg barS then barGift sw c else if semOf k = .dma sendS then xAt m c else outAt c (resultOf sw m c)) = gift sw m c k
  fin_cases k
  · exact if_pos rfl
  · exact (if_neg send_ne_bar).trans (if_pos rfl)
  · exact (if_neg recv_ne_bar).trans (if_neg send_ne_recv.symm)
omit [FloatOps F] in
theorem plan_expect (k : Fin 3) : (plan (F := F) sw m).expect (cellAt (c, k)) 0 = amt k := by
  unfold Schedule.expect Schedule.amountOf
  rw [plan_duties, Finset.sum_singleton, plan_amount]
omit [FloatOps F] in
/-- All that one wait brings. -/
theorem plan_rest (k : Fin 3) :
    bigSep ((plan (F := F) sw m).duties (cellAt (c, k)) 0 \ ∅) (fun d => (plan (F := F) sw m).payload (cellAt (c, k)) 0 d) = gift sw m c k := by
  rw [Finset.sdiff_empty, plan_duties, bigSep_singleton, plan_payload]

end Plan

/-! ## What is owed, and in which order waits may be met -/

/-- At launch a device owes its partner one block's receive credit and one barrier unit. -/
def owedAtLaunch (c : Dev nD) : CellTallies nD τ sig Unit := tallyAt (recvCell (partner sw c)) () N + tallyAt (barCell (partner sw c)) () 1

def marks (g : GSem nD τ sig) : Finset Unit := if g.1.2 = .tc then {()} else ∅
/-- Receive semaphores above barriers, barriers above all others. -/
def height (g : GSem nD τ sig) (_ : Unit) : ℕ := if g.2 = .reg barS then 1 else if g.2 = .dma recvS then 2 else 0

theorem mem_marks (c : Dev nD) (s : SemLoc sig) (u : Unit) : u ∈ marks ((c : Thread nD τ), s) := by
  unfold marks; rw [if_pos rfl]; exact Finset.mem_singleton_self _

theorem height_bar (c : Dev nD) : height (barCell c) () = 1 := if_pos rfl
theorem height_recv (c : Dev nD) : height (recvCell c) () = 2 := (if_neg recv_ne_bar).trans (if_pos rfl)

theorem tallyAt_pos {g h : GSem nD τ sig} {n : ℕ} {u : Unit} (hp : 0 < (tallyAt g () n : CellTallies nD τ sig Unit) h u) : h = g := by
  by_contra hn
  rw [tallyAt_ne_cell hn, Finsupp.zero_apply] at hp
  exact Nat.lt_irrefl 0 hp

theorem owedAtLaunch_pos {c : Dev nD} {g : GSem nD τ sig} {u : Unit} (h : 0 < owedAtLaunch sw c g u) :
    g = recvCell (partner sw c) ∨ g = barCell (partner sw c) := by
  unfold owedAtLaunch at h
  rw [Pi.add_apply, Finsupp.add_apply] at h
  rcases Nat.pos_of_ne_zero (n := _) (Nat.pos_iff_ne_zero.mp h) |> Nat.add_pos_iff_pos_or_pos.mp with h | h
  · exact .inl (tallyAt_pos h)
  · exact .inr (tallyAt_pos h)

omit [FloatOps F] in
/-- A wait for a staged copy may be met whatever is still owed. -/
theorem may_wait_staging (c : Dev nD) (q : DmaSem sig) (hq : SemLoc.dma q ≠ .dma recvS) (O : CellTallies nD τ sig Unit) (hO : O = owedAtLaunch sw c ∨ O = 0) :
    (levAts marks height : sProp 𝕄) ⊢ MayWait (c : Thread nD τ) (.dma q) () O := by
  rcases hO with rfl | rfl
  · refine MayOwe.of_cut (L := marks) (lev := height) 0 (fun p hp => by rw [Finset.mem_singleton.mp hp]; exact mem_marks _ _ _)
      (fun g u hg => by rcases owedAtLaunch_pos sw hg with rfl | rfl <;> exact mem_marks _ _ _)
      (fun p hp => by
        rw [Finset.mem_singleton.mp hp]; show height ((c : Thread nD τ), .dma q) () ≤ 0
        unfold height; rw [if_neg (fun h => by cases h), if_neg hq])
      (fun g u hg => by
        rcases owedAtLaunch_pos sw hg with rfl | rfl
        · show 0 < height (recvCell (partner sw c)) (); rw [height_recv]; decide
        · show 0 < height (barCell (partner sw c)) (); rw [height_bar]; decide)
  · rw [MayWait_zero]; iintro -; iempintro

omit [FloatOps F] in
/-- The barrier may be waited for while a receive credit is owed. -/
theorem may_wait_bar (c d : Dev nD) :
    (levAts marks height : sProp 𝕄) ⊢ MayWait (c : Thread nD τ) (.reg barS) () (tallyAt (recvCell d) () N) :=
  MayOwe.of_cut (L := marks) (lev := height) 1 (fun p hp => by rw [Finset.mem_singleton.mp hp]; exact mem_marks _ _ _)
    (fun g u hg => by rw [tallyAt_pos hg]; exact mem_marks _ _ _)
    (fun p hp => by rw [Finset.mem_singleton.mp hp]; exact (height_bar c).le)
    (fun g u hg => by rw [tallyAt_pos hg]; show 1 < height (recvCell d) (); rw [height_recv]; decide)

/-! ## The state at the body's two ends -/

theorem one_point : cfg0.N = 1 := N_0
def pt : Fin cfg0.N := t0_0
theorem pt_only (t : Fin cfg0.N) : t = pt := fin_N0 t

/-- The semaphore accounts device `c` works with: its own three, its partner's barrier and receive. -/
def accounts (K : Dev nD × Fin 3 → ℕ) (c : Dev nD) : sProp 𝕄 :=
  iprop(cellInv permE (plan sw m) (K (c, 0)) (barCell c) ∗ cellInv permE (plan sw m) (K (c, 1)) (sendCell c) ∗ cellInv permE (plan sw m) (K (c, 2)) (recvCell c)
    ∗ cellInv permE (plan sw m) (K (partner sw c, 0)) (barCell (partner sw c)) ∗ cellInv permE (plan sw m) (K (partner sw c, 2)) (recvCell (partner sw c)))

instance accounts_persistent (K : Dev nD × Fin 3 → ℕ) (c : Dev nD) : BI.Persistent (accounts sw m K c) := by unfold accounts; infer_instance

/-- That its own send and receive and its partner's barrier and receive semaphores stand at their round. -/
def standing (c : Dev nD) : sProp 𝕄 :=
  iprop(reached permE (sendCell c) 0 ∗ reached permE (recvCell c) 0 ∗ reached permE (barCell (partner sw c)) 0 ∗ reached permE (recvCell (partner sw c)) 0)

omit [FloatOps F] in
instance standing_persistent (c : Dev nD) : BI.Persistent (standing (F := F) sw c) := by unfold standing; infer_instance

/-- Its place on its own three semaphores, -/
def seats (c : Dev nD) : sProp 𝕄 := iprop(atPos permE (barCell c) 0 ∅ 0 ∗ atPos permE (sendCell c) 0 ∅ 0 ∗ atPos permE (recvCell c) 0 ∅ 0)
/-- and the right to make the three payments that are its to make. -/
def rights (c : Dev nD) : sProp 𝕄 := iprop(dutyTok permE (barCell (partner sw c)) 0 () ∗ dutyTok permE (sendCell c) 0 () ∗ dutyTok permE (recvCell (partner sw c)) 0 ())

def share (c : Dev nD) : sProp 𝕄 := iprop(∃ K, accounts sw m K c ∗ standing sw c ∗ seats c ∗ rights sw c)

/-- The body's start: that, the credit it will wait for, and its two blocks. -/
def start (c : Dev nD) : sProp 𝕄 :=
  iprop(share sw m c ∗ (cred (tallyAt (barCell c) () 1) ∗ cred (tallyAt (recvCell c) () N)) ∗ levAts marks height
    ∗ xAt m c ∗ ∃ f, outAt c f)
/-- Its end: its block of `x` as it was, the result in place, the three semaphores at zero. -/
def finish (c : Dev nD) : sProp 𝕄 :=
  iprop(xAt m c ∗ outAt c (resultOf sw m c) ∗ semVal (barCell c) 0 ∗ semVal (sendCell c) 0 ∗ semVal (recvCell c) 0)

def dats (_ : Fin 1) (c : Dev nD) : Dat τ (Elt F) Unit ℕ Acct ℕ cfg0 c where
  A w := m ((cfg0.win w).arr.view.loc (c : Thread nD τ))
  after w _ := match w with
    | ⟨0, _⟩ => table m c
    | ⟨_ + 1, h⟩ => absurd h (Nat.not_lt.2 (Nat.le_add_left _ _))
  Φ t := match t with
    | ⟨0, _⟩ => start sw m c
    | ⟨_ + 1, _⟩ => finish sw m c
  q _ := fullShare
  owed t := match t with
    | ⟨0, _⟩ => owedAtLaunch sw c
    | ⟨_ + 1, _⟩ => 0

abbrev vars : Variants := Variants.none

/-! ## The body -/

section Body

variable (K : Dev nD × Fin 3 → ℕ)

/-- The signal to the partner, `n`: it hands over `c`'s result buffer. -/
theorem wp_tell (c n : Dev nD) (hn : n = partner sw c) (f : Buf (Elt F) ((c : Thread nD τ).loc main_v1)) (W : Waits sig Unit)
    {α : Type} {Q : α → sProp 𝕄} {k : PUnit → Prog (TpuEff nD τ sig (Elt F) Λ₀ .tc) α} :
    iprop(cellInv permE (plan sw m) (K (partner sw c, 0)) (barCell (partner sw c))
        ∗ owes (c : Thread nD τ) (owedAtLaunch sw c) W
        ∗ dutyTok permE (barCell (partner sw c)) 0 ()
        ∗ (outAt c f ∗ reached permE (recvCell c) 0)
        ∗ reached permE (barCell (partner sw c)) 0)
      ⊢ iprop((owes (c : Thread nD τ) (tallyAt (recvCell (partner sw c)) () N) W -∗ wp frame (wpE (defs₀ (F := F)) vars (c : Thread nD τ) none) Set.univ (k ⟨⟩) Q)
          -∗ wp frame (wpE (defs₀ (F := F)) vars (c : Thread nD τ) none) Set.univ
              (.op (.semSignal (Dev.tc n : Thread nD τ) barS (1#32).toNat) k) Q) := by
  subst hn
  iintro ⟨#HI, HO, Ht, ⟨Hout, #Hr⟩, #Hb⟩ Hk
  iapply (Rounds.wp_signal vars permE (plan sw m) (c : Thread nD τ) none (dst := (partner sw c : Thread nD τ)) (κ := K (partner sw c, 0))
      (d := ()) (by rw [plan_duties sw m (partner sw c) 0]; exact Finset.mem_singleton_self _) ((plan_amount sw m (partner sw c) 0 ()).trans (by decide)) ()
      (tallyAt (recvCell (partner sw c)) () N) rfl) $$ [HO Ht Hout]
  · isplitr; · iexact HI
    isplitl [HO]; · iexact HO
    isplitl [Ht]; · iexact Ht
    isplitl [Hout]
    · iapply (Entails.of_eq (plan_payload sw m (partner sw c) 0 ()).symm)
      unfold gift barGift; rw [partner_partner]
      isplitl [Hout]; · iexists f; iexact Hout
      iexact Hr
    · iexact Hb
  iexact Hk

/-- The copy to the partner, `n`: `c` lends its block of `x` and spends its partner's result buffer. -/
theorem wp_give (c n : Dev nD) (hn : n = partner sw c) (fd : Buf (Elt F) ((partner sw c : Thread nD τ).loc main_v1)) (W : Waits sig Unit)
    {hsc : (outM : Memref sig (Dev.tc n : Thread nD τ).2.kind .hbm S1x4096x2048 .f32).view.ref.isScScratch = false}
    {hsrc : (xM : Memref sig .tc .hbm S1x4096x2048 .f32).view.WordExact} {hdst : (outM : Memref sig .tc .hbm S1x4096x2048 .f32).view.WordExact}
    {hsem : DmaTarget.Typed .hbm (.dma recvS) (.remote (Dev.tc n : Thread nD τ) (outM : Memref sig .tc .hbm S1x4096x2048 .f32) (.dma sendS) hsc)}
    {α : Type} {Q : α → sProp 𝕄} {k : PUnit → Prog (TpuEff nD τ sig (Elt F) Λ₀ .tc) α} :
    iprop(cellInv permE (plan sw m) (K (c, 1)) (sendCell c) ∗ cellInv permE (plan sw m) (K (partner sw c, 2)) (recvCell (partner sw c))
        ∗ xAt m c ∗ outAt (partner sw c) fd
        ∗ owes (c : Thread nD τ) (tallyAt (recvCell (partner sw c)) () N) W
        ∗ dutyTok permE (sendCell c) 0 () ∗ reached permE (sendCell c) 0
        ∗ dutyTok permE (recvCell (partner sw c)) 0 () ∗ reached permE (recvCell (partner sw c)) 0)
      ⊢ iprop(((cred (tallyAt (sendCell c) () N) ∗ owes (c : Thread nD τ) 0 W) -∗ wp frame (wpE (defs₀ (F := F)) vars (c : Thread nD τ) none) Set.univ (k ⟨⟩) Q)
          -∗ wp frame (wpE (defs₀ (F := F)) vars (c : Thread nD τ) none) Set.univ
              (.op (.enqueueDma xM (.remote (Dev.tc n : Thread nD τ) outM (.dma sendS) hsc) (.dma recvS) hsrc hdst hsem) k) Q) := by
  subst hn
  rw [xAt_view, outAt_view]
  have credit : (outM : Memref sig .tc .hbm S1x4096x2048 .f32).view.amount (.dma recvS) = N := rfl
  have paidS : (plan (F := F) sw m).amount (sendCell c) 0 () = N := plan_amount sw m c 1 ()
  have paidR : (plan (F := F) sw m).amount (recvCell (partner sw c)) 0 () = N := plan_amount sw m (partner sw c) 2 ()
  have dutyS : () ∈ (plan (F := F) sw m).duties (sendCell c) 0 := by rw [plan_duties sw m c 1]; exact Finset.mem_singleton_self _
  have dutyR : () ∈ (plan (F := F) sw m).duties (recvCell (partner sw c)) 0 := by
    rw [plan_duties sw m (partner sw c) 2]; exact Finset.mem_singleton_self _
  have giftS : ((xM : Memref sig .tc .hbm S1x4096x2048 .f32).view.loc (c : Thread nD τ) ↦[(xM : Memref sig .tc .hbm S1x4096x2048 .f32).view.set]{fullShare} xOf m c : sProp 𝕄)
      ⊢ (plan (F := F) sw m).payload (sendCell c) 0 () := Entails.of_eq (((plan_payload sw m c 1 ()).trans (xAt_view m c)).symm)
  have giftR : ((outM : Memref sig .tc .hbm S1x4096x2048 .f32).view.loc (partner sw c : Thread nD τ) ↦[(outM : Memref sig .tc .hbm S1x4096x2048 .f32).view.set]{fullShare}
        ((outM : Memref sig .tc .hbm S1x4096x2048 .f32).view.write (Elt F) fd ((xM : Memref sig .tc .hbm S1x4096x2048 .f32).view.read (Elt F) (xOf m c)) Finset.univ) : sProp 𝕄)
      ⊢ (plan (F := F) sw m).payload (recvCell (partner sw c)) 0 () := by
    rw [copy_eq]
    refine Entails.of_eq ?_
    rw [plan_payload sw m (partner sw c) 2 ()]
    show _ = outAt (partner sw c) (resultOf sw m (partner sw c))
    rw [outAt_view, resultOf, partner_partner]
  have rule := Rounds.wp_send_pointsTo (defs := defs₀ (F := F)) (src := xM) (dst := outM) (fs := xOf m c) (q := fullShare)
    (hsc := hsc) (hsrc := hsrc) (hdst := hdst) (hsem := hsem) (sS := .dma sendS) (sem := .dma recvS) (c' := (partner sw c : Thread nD τ))
    (k := k) (Q := Q) (Es := Set.univ) (Γ := .empty) vars permE (plan sw m) (c : Thread nD τ) none
    (κ₁ := K (c, 1)) (κ₂ := K (partner sw c, 2)) (r₁ := 0) (r₂ := 0) (d₁ := ()) (d₂ := ()) (fd := fd) dutyS dutyR () () N credit paidS paidR
    0 (by rw [zero_add]) (W := W) giftS giftR
  exact rule

end Body

end Cert.KernelIdeal.Perm

end
-- ==== Proof.RunIdeal.lean ====
/-
# The body and the launch of the permutation kernel `KernelIdeal`

`body_runs` takes one device's body through its steps, at a symbolic device: the table's word and its check, the
signal, the barrier wait, the copy, the two waits. `launch` seats the eight bodies, with each device's buffers and
semaphores handed out as `Proof/ProtocolIdeal.lean` says, and `run_main` reads the final memory: every device's result
buffer holds its partner's block of `x`, the arguments are as before, and every semaphore counter is zero.
-/
module

public import proofs.«01_k».proof.Proof.ProtocolIdeal
public import Idealize.ShloMosaic.Lib.Pipeline.CollectiveSegs

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Acct ℕ

variable (sw : Bool) (m : (ℓ : Loc nD τ sig) → Buf (Elt F) ℓ) (ρ : Dev nD → PrngReg)

section Body

variable (K : Dev nD × Fin 3 → ℕ)

/-- A wait on one of its own semaphores, `k`, for the whole of what is paid there: it brings what comes with the payment. -/
theorem wp_await (c : Dev nD) (k : Fin 3) {w : TpuEff nD τ sig (Elt F) Λ₀ .tc PUnit}
    (hw : ∀ P : PUnit → sProp 𝕄, wpE (defs₀ (F := F)) vars (c : Thread nD τ) none Set.univ w P = waitSpec (c : Thread nD τ) Set.univ (semOf k) (amt k) P)
    (O : CellTallies nD τ sig Unit) (W : Waits sig Unit)
    {α : Type} {Q : α → sProp 𝕄} {next : PUnit → Prog (TpuEff nD τ sig (Elt F) Λ₀ .tc) α} :
    iprop(cellInv permE (plan sw m) (K (c, k)) (cellAt (c, k)) ∗ cred (tallyAt (cellAt (c, k)) () (amt k)) ∗ owes (c : Thread nD τ) O W
        ∗ MayWait (c : Thread nD τ) (semOf k) () O ∗ atPos permE (cellAt (c, k)) 0 ∅ 0)
      ⊢ iprop(((owes (c : Thread nD τ) O (insert (semOf k, ()) W) ∗ semVal (cellAt (c, k)) 0 ∗ gift sw m c k)
            -∗ wp frame (wpE (defs₀ (F := F)) vars (c : Thread nD τ) none) Set.univ (next ⟨⟩) Q)
          -∗ wp frame (wpE (defs₀ (F := F)) vars (c : Thread nD τ) none) Set.univ (.op w next) Q) := by
  iintro ⟨#HI, Hc, HO, Hm, Hat⟩ Hk
  iapply (Rounds.wp_wait_rest_token vars permE (plan sw m) (c : Thread nD τ) none (κ := K (c, k)) hw (Set.mem_univ _) () (O := O) (W := W)
      (R := 0) (m := 0) (T := ∅) (by rw [Nat.zero_add]; exact (plan_expect sw m c k).symm)) $$ [Hc HO Hm Hat]
  · isplitr; · iexact HI
    isplitl [Hc]; · iexact Hc
    isplitl [HO]; · iexact HO
    isplitl [Hm] <;> iassumption
  iintro ⟨HO, Hat, -, Hpay⟩
  ihave Hg := (Entails.of_eq (plan_rest sw m c k)) $$ Hpay
  imod (Rounds.cell_close permE (plan sw m) (Set.mem_univ (K (c, k))) (fun h => h) (R := 0 + 1) (plan_over sw m (cellAt (c, k)))) $$ [Hat] with Hz
  · isplitr; · iexact HI
    iexact Hat
  iapply Hk
  isplitl [HO]; · iexact HO
  isplitl [Hz] <;> iassumption

/-- The two waits for copies are waits for a whole block's credit. -/
theorem wait_sent (c : Dev nD) {hsrc : (outM : Memref sig .tc .hbm S1x4096x2048 .f32).view.WordExact} {hdst : (xM : Memref sig .tc .hbm S1x4096x2048 .f32).view.WordExact}
    (P : PUnit → sProp 𝕄) : wpE (defs₀ (F := F)) vars (c : Thread nD τ) none Set.univ (.waitDma2 sendS outM xM hsrc hdst) P
      = waitSpec (c : Thread nD τ) Set.univ (semOf 1) (amt 1) P :=
  wpE_waitDma2_eq (dst := xM) vars (c : Thread nD τ) none Set.univ P
theorem wait_arrived (c : Dev nD) {hsrc : (xM : Memref sig .tc .hbm S1x4096x2048 .f32).view.WordExact} {hdst : (outM : Memref sig .tc .hbm S1x4096x2048 .f32).view.WordExact}
    (P : PUnit → sProp 𝕄) : wpE (defs₀ (F := F)) vars (c : Thread nD τ) none Set.univ (.waitDma2 recvS xM outM hsrc hdst) P
      = waitSpec (c : Thread nD τ) Set.univ (semOf 2) (amt 2) P :=
  wpE_waitDma2_eq (dst := outM) vars (c : Thread nD τ) none Set.univ P

/-- What the pipeline hands the body besides its start, and takes back besides its end: the debts, and the staged table. -/
def tableAt (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def before (c : Dev nD) : sProp 𝕄 :=
  iprop(start sw m c ∗ (dats sw m 0 c).owesAt () pt.castSucc ∗ ∃ d, tableAt c ((dats sw m 0 c).before (0 : Fin 1) pt d))
def after (c : Dev nD) : sProp 𝕄 :=
  iprop(finish sw m c ∗ (dats sw m 0 c).owesAt () pt.succ ∗ tableAt c (table m c))

set_option maxHeartbeats 800000 in
/-- The body, effect by effect. -/
theorem body_runs (hT : TableOK sw m) (c : Dev nD) (Q : PUnit → sProp 𝕄) :
    iprop(before sw m c ∗ (after sw m c -∗ Q ⟨⟩))
      ⊢ wp frame (wpE (defs₀ (F := F)) vars (c : Thread nD τ) none) Set.univ
          (cc0_body (Memref.whole cc0_stg0_0) (Memref.isWhole_whole _) (Memref.whole main_arg0) (Memref.isWhole_whole _)
            (Memref.whole main_v1) (Memref.isWhole_whole _) cc0_scratch0 cc0_scratch1) Q := by
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold before start share accounts standing seats rights tableAt Dat.owesAt Pipeline.owesWithin
  rw [show (dats sw m 0 c).owed pt.castSucc = owedAtLaunch sw c from rfl]
  iintro ⟨⟨⟨⟨%K, ⟨#HIb, #HIs, #HIr, #HIpb, #HIpr⟩, ⟨#HsS, #HsR, #HsPB, #HsPR⟩, ⟨Hab, Has, Har⟩, Htb, Hts, Htr⟩, ⟨Hcb, Hcr⟩, #Hlev, Hx, ⟨%f, Hout⟩⟩,
    ⟨%W, %hW, HO⟩, ⟨%d, %g, %hg, Ht⟩⟩, Hk⟩
  have htab : g = table m c := by rw [hg]; unfold Dat.before; rw [if_pos (fetch0_0 pt)]; rfl
  subst htab
  -- the look-up; the word names a device
  iapply (wp_load_rect vars (c : Thread nD τ) none Set.univ (m := piM) (r := piRect c) (Finset.subset_univ _)) $$ Ht; iintro Ht
  simp only [wp_assume_of _ _ _ _ (d := k0_chk1.dec _ _) (hT.chk c)]
  -- the signal
  iapply (wp_tell sw m K c _ (Fin.ext (hT.dev1 c)) f W) $$ [HO Htb Hout]
  · isplitr; · iexact HIpb
    isplitl [HO]; · iexact HO
    isplitl [Htb]; · iexact Htb
    isplitl [Hout]
    · isplitl [Hout]; · iexact Hout
      iexact HsR
    · iexact HsPB
  iintro HO
  -- the barrier wait
  iapply (wp_await sw m K c 0 (wpE_semWait_eq vars (c : Thread nD τ) none Set.univ) (tallyAt (recvCell (partner sw c)) () N) W) $$ [Hcb HO Hab]
  · isplitr; · iexact HIb
    isplitl [Hcb]; · iexact Hcb
    isplitl [HO]; · iexact HO
    isplitr; · iapply (may_wait_bar c (partner sw c)); iexact Hlev
    iexact Hab
  iintro ⟨HO, Hzb, Hg⟩
  unfold gift barGift
  icases Hg with ⟨⟨%fd, Hpout⟩, -⟩
  -- the copy
  have rule := @wp_give F _ sw m K c ⟨k0_dev2 c (word m c), k0_dev2_lt c (word m c) (hT.chk c)⟩ (Fin.ext (hT.dev2 c)) fd (insert (semOf 0, ()) W)
  iapply rule $$ [Hx Hpout HO Hts Htr]
  · isplitr; · iexact HIs
    isplitr; · iexact HIpr
    isplitl [Hx]; · iexact Hx
    isplitl [Hpout]; · iexact Hpout
    isplitl [HO]; · iexact HO
    isplitl [Hts]; · iexact Hts
    isplitr; · iexact HsS
    isplitl [Htr]; · iexact Htr
    iexact HsPR
  iintro ⟨Hcs, HO⟩
  -- its departure
  iapply (wp_await sw m K c 1 (wait_sent c) 0 (insert (semOf 0, ()) W)) $$ [Hcs HO Has]
  · isplitr; · iexact HIs
    isplitl [Hcs]; · iexact Hcs
    isplitl [HO]; · iexact HO
    isplitr; · rw [MayWait_zero]; iempintro
    iexact Has
  iintro ⟨HO, Hzs, Hx⟩
  -- the arrival of the partner's
  iapply (wp_await sw m K c 2 (wait_arrived c) 0 (insert (semOf 1, ()) (insert (semOf 0, ()) W))) $$ [Hcr HO Har]
  · isplitr; · iexact HIr
    isplitl [Hcr]; · iexact Hcr
    isplitl [HO]; · iexact HO
    isplitr; · rw [MayWait_zero]; iempintro
    iexact Har
  iintro ⟨HO, Hzr, Hout⟩
  rw [wp_ret]; imodintro
  iapply Hk
  unfold after finish tableAt Dat.owesAt Pipeline.owesWithin gift
  rw [show (dats sw m 0 c).owed pt.succ = 0 from rfl]
  isplitl [Hx Hout Hzb Hzs Hzr]
  · isplitl [Hx]; · iexact Hx
    isplitl [Hout]; · iexact Hout
    isplitl [Hzb]; · iexact Hzb
    isplitl [Hzs] <;> iassumption
  isplitl [HO]
  · iexists (insert (semOf 2, ()) (insert (semOf 1, ()) (insert (semOf 0, ()) W)))
    isplitr; · ipureintro; exact fun _ _ => Or.inl trivial
    iexact HO
  iexists _; isplitr; · (ipureintro; rfl)
  iexact Ht

omit [FloatOps F] in
/-- A whole staging buffer, owned at contents `X`. -/
theorem owns_table (c : Dev nD) (X : (cc0_stg0_0 : Ref sig .tc).ty.Contents (Elt F)) :
    (owns (Ix := Unit) (Name := ℕ) (U := Acct) (Lvl := ℕ) (c : Thread nD τ) (Memref.whole cc0_stg0_0) fullShare X : sProp 𝕄) = tableAt c X := by
  unfold owns tableAt; simp only [Memref.view_whole, View.read_whole, View.set_whole]

set_option maxRecDepth 4000 in
/-- The body does what the pipeline asks of it. -/
theorem body_meets (hT : TableOK sw m) (c : Dev nD) : BodyObligation (dats (F := F) sw m 0 c) (defs₀ (F := F)) vars () Set.univ := fun t => by
  rw [pt_only t, bigSep_W0, bigSep_W0]
  simp only [owns_table]
  show before sw m c ⊢ wp frame (wpE (defs₀ (F := F)) vars (c : Thread nD τ) none) Set.univ
    (cc0_body (Memref.whole cc0_stg0_0) (Memref.isWhole_whole _) (Memref.whole main_arg0) (Memref.isWhole_whole _)
      (Memref.whole main_v1) (Memref.isWhole_whole _) cc0_scratch0 cc0_scratch1) (fun _ => after sw m c)
  iintro H
  iapply (body_runs sw m hT c fun _ => after sw m c)
  isplitl [H]; · iexact H
  iintro H; iexact H

end Body

/-! ## The launch -/

theorem own_facts : Pipeline.OwnSemFacts cfg0.spec ownSem := by decide

theorem share_full (c : Dev nD) (w : Fin cfg0.W) : (dats sw m 0 c).share w = fullShare := by unfold Dat.share; split <;> rfl

theorem semOf_injective : Function.Injective semOf := by
  intro k k' h
  fin_cases k <;> fin_cases k' <;> first | rfl | exact absurd h (by decide)
theorem cellAt_injective : Function.Injective (cellAt : Dev nD × Fin 3 → GSem nD τ sig) := fun a b h =>
  Prod.ext (congrArg (fun g : GSem nD τ sig => g.1.1) h) (semOf_injective (congrArg (fun g : GSem nD τ sig => g.2) h))

/-- All the kernel's semaphores, and the one right to pay on each. -/
def allCells : Finset (GSem nD τ sig) := Finset.univ.map ⟨cellAt, cellAt_injective⟩
def allRights : Finset (GSem nD τ sig × ℕ × Unit) :=
  Finset.univ.map ⟨fun ck : Dev nD × Fin 3 => (cellAt ck, 0, ()), fun _ _ h => cellAt_injective (congrArg Prod.fst h)⟩

def acct₀ : Acct := (initOf (Pipeline.cells cfgs cellOf_inj) (Pipeline.launchToks cfgs cellOf_inj), initOf allCells allRights)

omit [FloatOps F] in
theorem three (Φ : Fin 3 → sProp 𝕄) : bigSep Finset.univ Φ = iprop(Φ 0 ∗ Φ 1 ∗ Φ 2) := bigSep_univ_eq_bigSepL [0, 1, 2] (by decide) (by decide) Φ

/-- What is minted for device `c`: the state, seat, record and right of each of its three semaphores. -/
def minted (c : Dev nD) : sProp 𝕄 :=
  iprop((bigSep Finset.univ fun k : Fin 3 => roundState permE (plan sw m) (cellAt (c, k)) 0)
    ∗ (bigSep Finset.univ fun k : Fin 3 => atPos permE (cellAt (c, k)) 0 ∅ 0)
    ∗ (bigSep Finset.univ fun k : Fin 3 => reached permE (cellAt (c, k)) 0)
    ∗ (bigSep Finset.univ fun k : Fin 3 => dutyTok permE (cellAt (c, k)) 0 ()))

omit [FloatOps F] in
theorem mint : BI.own (permE (initOf allCells allRights)) ⊢ (|==> bigSep Finset.univ (minted sw m) : sProp 𝕄) := by
  have hC (Φ : GSem nD τ sig → sProp 𝕄) : bigSep allCells Φ = bigSep Finset.univ fun c : Dev nD => bigSep Finset.univ fun k : Fin 3 => Φ (cellAt (c, k)) := by
    unfold allCells; rw [bigSep_map, bigSep_univ_prod]; rfl
  have hR : bigSep allRights (fun x => (dutyTok permE x.1 x.2.1 x.2.2 : sProp 𝕄))
      = bigSep Finset.univ fun c : Dev nD => bigSep Finset.univ fun k : Fin 3 => dutyTok permE (cellAt (c, k)) 0 () := by
    unfold allRights; rw [bigSep_map, bigSep_univ_prod]; rfl
  iintro HX
  imod (Rounds.fund permE (plan sw m) allCells allRights) $$ HX with ⟨Hst, Hre, Hat, Hto⟩
  imodintro
  unfold minted; simp only [bigSep_sep']
  isplitl [Hst]; · iapply (Entails.of_eq (hC fun g => roundState permE (plan sw m) g 0)); iexact Hst
  isplitl [Hat]; · iapply (Entails.of_eq (hC fun g => atPos permE g 0 ∅ 0)); iexact Hat
  isplitl [Hre]; · iapply (Entails.of_eq (hC fun g => reached permE g 0)); iexact Hre
  iapply (Entails.of_eq hR); iexact Hto

omit [FloatOps F] in
theorem own_sems (c : Dev nD) : (Pipeline.ownSems0 (Ix := Unit) (Name := ℕ) (U := Acct) (Lvl := ℕ) (Val := Elt F) (τ := τ) ownSem c : sProp 𝕄)
    = iprop(semVal (sendCell c) 0 ∗ semVal (recvCell c) 0) := by
  rw [Pipeline.ownSems0_eq_of_list c ownSem [0, 1] (by decide) (by decide)]; rfl
omit [FloatOps F] in
theorem free_sems (c : Dev nD) : (unscopedSems0 c : sProp 𝕄) = semVal (barCell c) 0 := by
  unfold unscopedSems0; rw [bigSep_eq_bigSepL_of_eq [SemLoc.reg barS] (by decide) (by decide)]; rfl

/-- Device `c` after its accounts are opened. -/
def opened (c : Dev nD) : sProp 𝕄 :=
  iprop((bigSep Finset.univ fun k : Fin 3 => iprop(∃ κ : ℕ, cellInv permE (plan sw m) κ (cellAt (c, k))))
    ∗ (bigSep Finset.univ fun k : Fin 3 => atPos permE (cellAt (c, k)) 0 ∅ 0)
    ∗ (bigSep Finset.univ fun k : Fin 3 => reached permE (cellAt (c, k)) 0)
    ∗ (bigSep Finset.univ fun k : Fin 3 => dutyTok permE (cellAt (c, k)) 0 ()))

omit [FloatOps F] in
theorem open_accounts (c : Dev nD) :
    iprop(Pipeline.ownSems0 (Ix := Unit) (Name := ℕ) (U := Acct) (Lvl := ℕ) (Val := Elt F) (τ := τ) ownSem c ∗ unscopedSems0 c ∗ minted sw m c)
      ⊢ |={Set.univ}=> opened sw m c := by
  have step : iprop((bigSep Finset.univ fun k : Fin 3 => semVal (cellAt (c, k)) 0) ∗ bigSep Finset.univ fun k : Fin 3 => roundState permE (plan sw m) (cellAt (c, k)) 0)
      ⊢ (|={Set.univ}=> bigSep Finset.univ fun k => iprop(∃ κ : ℕ, cellInv permE (plan sw m) κ (cellAt (c, k))) : sProp 𝕄) := by
    rw [← bigSep_sep']
    exact (bigSep_mono fun k _ => (Rounds.body_intro permE (plan sw m) (cellAt (c, k))).trans inv_alloc).trans (bigSep_fupd _ _)
  rw [own_sems, free_sems]
  unfold minted opened
  iintro ⟨⟨Hs, Hr⟩, Hb, Hst, Hrest⟩
  imod step $$ [Hs Hr Hb Hst] with HI
  · isplitr [Hst]
    · rw [three]
      isplitl [Hb]; · iexact Hb
      isplitl [Hs] <;> iassumption
    · iexact Hst
  imodintro
  isplitl [HI] <;> iassumption

/-- The facts that every device may read. -/
def known (K : Dev nD × Fin 3 → ℕ) : sProp 𝕄 :=
  iprop((bigSep Finset.univ fun ck : Dev nD × Fin 3 => cellInv permE (plan sw m) (K ck) (cellAt ck))
    ∗ bigSep Finset.univ fun ck : Dev nD × Fin 3 => reached permE (cellAt ck) 0)

instance known_persistent (K : Dev nD × Fin 3 → ℕ) : BI.Persistent (known sw m K) := by unfold known; infer_instance

omit [FloatOps F] in
theorem known_account (K : Dev nD × Fin 3 → ℕ) (ck : Dev nD × Fin 3) : known sw m K ⊢ cellInv permE (plan sw m) (K ck) (cellAt ck) :=
  sep_elim_left.trans (bigSep_elim (Finset.mem_univ ck))
omit [FloatOps F] in
theorem known_reached (K : Dev nD × Fin 3 → ℕ) (ck : Dev nD × Fin 3) : known sw m K ⊢ reached permE (cellAt ck) 0 :=
  sep_elim_right.trans (bigSep_elim (Finset.mem_univ ck))

omit [FloatOps F] in
theorem share_of_known (K : Dev nD × Fin 3 → ℕ) (c : Dev nD) : iprop(known sw m K ∗ seats c ∗ rights sw c) ⊢ share sw m c := by
  unfold share accounts standing
  iintro ⟨#H, Hs, Hr⟩
  iexists K
  isplitr
  · isplitr; · iapply (known_account sw m K (c, 0)); iexact H
    isplitr; · iapply (known_account sw m K (c, 1)); iexact H
    isplitr; · iapply (known_account sw m K (c, 2)); iexact H
    isplitr; · iapply (known_account sw m K (partner sw c, 0)); iexact H
    iapply (known_account sw m K (partner sw c, 2)); iexact H
  isplitr
  · isplitr; · iapply (known_reached sw m K (c, 1)); iexact H
    isplitr; · iapply (known_reached sw m K (c, 2)); iexact H
    isplitr; · iapply (known_reached sw m K (partner sw c, 0)); iexact H
    iapply (known_reached sw m K (partner sw c, 2)); iexact H
  isplitl [Hs] <;> iassumption

omit [FloatOps F] in
/-- The rights go to the devices that will make the payments: barrier and receive to the partner, send stays. -/
theorem deal_rights : (bigSep Finset.univ fun c : Dev nD => bigSep Finset.univ fun k : Fin 3 => (dutyTok permE (cellAt (c, k)) 0 () : sProp 𝕄))
    ⊢ bigSep Finset.univ fun c : Dev nD => rights sw c := by
  unfold rights
  simp only [three, bigSep_sep']
  rw [bigSep_univ_equiv (partners sw) (fun c : Dev nD => (dutyTok permE (cellAt (c, 0)) 0 () : sProp 𝕄)),
    bigSep_univ_equiv (partners sw) (fun c : Dev nD => (dutyTok permE (cellAt (c, 2)) 0 () : sProp 𝕄))]
  exact BI.Entails.refl _

omit [FloatOps F] in
theorem deal : (bigSep Finset.univ fun c : Dev nD => opened sw m c : sProp 𝕄) ⊢ bigSep Finset.univ (share sw m) := by
  unfold opened
  simp only [bigSep_sep']
  rw [← bigSep_univ_prod (fun ck : Dev nD × Fin 3 => iprop(∃ κ : ℕ, cellInv permE (plan sw m) κ (cellAt ck))),
    ← bigSep_univ_prod (fun ck : Dev nD × Fin 3 => (reached permE (cellAt ck) 0 : sProp 𝕄))]
  iintro ⟨HI, Hat, #Hre, Hto⟩
  ihave HK := (BI.bigSep_exists_pi Finset.univ (fun (ck : Dev nD × Fin 3) (κ : ℕ) => (cellInv permE (plan sw m) κ (cellAt ck) : sProp 𝕄))) $$ HI
  icases HK with ⟨%K, #HI⟩
  ihave Hri := (deal_rights (F := F) sw) $$ Hto
  have each : iprop(known sw m K ∗ bigSep Finset.univ fun c : Dev nD => iprop(seats c ∗ rights sw c)) ⊢ bigSep Finset.univ (share sw m) :=
    (sep_mono_left (BI.bigSep_of_persistent Finset.univ (known sw m K))).trans (by
      rw [← bigSep_sep']; exact bigSep_mono fun c _ => share_of_known sw m K c)
  have seated : (bigSep Finset.univ fun c : Dev nD => bigSep Finset.univ fun k : Fin 3 => (atPos permE (cellAt (c, k)) 0 ∅ 0 : sProp 𝕄)) = bigSep Finset.univ fun c : Dev nD => seats c :=
    bigSep_congr fun c _ => three fun k => atPos permE (cellAt (c, k)) 0 ∅ 0
  iapply each
  isplitr
  · unfold known; isplitl; · iexact HI
    iexact Hre
  rw [bigSep_sep']
  isplitl [Hat]
  · iapply (Entails.of_eq seated)
    iexact Hat
  iexact Hri

omit [FloatOps F] in
theorem launch_shares : (bigSep Finset.univ fun c => iprop(Pipeline.ownSems0 (Ix := Unit) (Name := ℕ) (U := Acct) (Lvl := ℕ) (Val := Elt F) (τ := τ) ownSem c
      ∗ unscopedSems0 c ∗ minted sw m c) : sProp 𝕄) ⊢ |={Set.univ}=> bigSep Finset.univ (share sw m) :=
  ((bigSep_mono fun c _ => open_accounts sw m c).trans (bigSep_fupd _ _)).trans (BI.fupd_mono (deal sw m))

/-! ### What is owed to each semaphore at launch -/

theorem owed_bar (d c : Dev nD) : owedAtLaunch sw d (barCell c) () = if d = partner sw c then 1 else 0 := by
  unfold owedAtLaunch
  rw [Pi.add_apply, Finsupp.add_apply, tallyAt_ne_cell (fun h => recv_ne_bar (congrArg Prod.snd h).symm), Finsupp.zero_apply, Nat.zero_add, tallyAt_apply]
  refine if_congr ⟨fun h => (eq_partner_comm sw).mp ?_, fun h => ?_⟩ rfl rfl
  · exact congrArg (fun g : GSem nD τ sig => g.1.1) h.1
  · subst h; rw [partner_partner]; exact ⟨rfl, rfl⟩

theorem owed_recv (d c : Dev nD) : owedAtLaunch sw d (recvCell c) () = if d = partner sw c then N else 0 := by
  unfold owedAtLaunch
  rw [Pi.add_apply, Finsupp.add_apply, tallyAt_ne_cell (g := barCell _) (fun h => recv_ne_bar (congrArg Prod.snd h)), Finsupp.zero_apply, Nat.add_zero, tallyAt_apply]
  refine if_congr ⟨fun h => (eq_partner_comm sw).mp ?_, fun h => ?_⟩ rfl rfl
  · exact congrArg (fun g : GSem nD τ sig => g.1.1) h.1
  · subst h; rw [partner_partner]; exact ⟨rfl, rfl⟩

theorem due_bar (c : Dev nD) :
    tallyOn (barCell c) (launchCredit (Pipeline.owing (owedAtLaunch sw)) 0 (barCell c)) = (tallyAt (barCell c) () 1 : CellTallies nD τ sig Unit) := by
  unfold tallyAt; refine congrArg _ (Finsupp.ext fun u => ?_)
  rw [Pipeline.launchCredit_owing, Finsupp.single_eq_same, Finset.sum_congr rfl fun d _ => owed_bar sw d c,
    Finset.sum_ite_eq' Finset.univ (partner sw c) fun _ => 1, if_pos (Finset.mem_univ _)]
theorem due_recv (c : Dev nD) :
    tallyOn (recvCell c) (launchCredit (Pipeline.owing (owedAtLaunch sw)) 0 (recvCell c)) = (tallyAt (recvCell c) () N : CellTallies nD τ sig Unit) := by
  unfold tallyAt; refine congrArg _ (Finsupp.ext fun u => ?_)
  rw [Pipeline.launchCredit_owing, Finsupp.single_eq_same, Finset.sum_congr rfl fun d _ => owed_recv sw d c,
    Finset.sum_ite_eq' Finset.univ (partner sw c) fun _ => N, if_pos (Finset.mem_univ _)]

omit [FloatOps F] in
theorem dues (c : Dev nD) :
    (Pipeline.launchCred (owedAtLaunch sw) c : sProp 𝕄) ⊢ iprop(cred (tallyAt (barCell c) () 1) ∗ cred (tallyAt (recvCell c) () N)) := by
  unfold Pipeline.launchCred
  rw [bigSep_univ_at _ (SemLoc.reg barS), due_bar, ← due_recv sw c]
  exact sep_mono_right (bigSep_elim (Finset.mem_erase.mpr ⟨recv_ne_bar, Finset.mem_univ _⟩))

/-! ### Into and out of the body -/

omit [FloatOps F] in
theorem to_start (c : Dev nD) :
    iprop(Pipeline.unscopedRestP Pipeline.Prefetch.none cfg0.spec c (fun b => m ((c : Thread nD τ).loc b)) ∗ levAts marks height
        ∗ Pipeline.launchCred (owedAtLaunch sw) c ∗ prngReg c (ρ c) ∗ share sw m c)
      ⊢ |={Set.univ}=> iprop(start sw m c ∗ emp) := by
  have rest : (Pipeline.unscopedRestP (Ix := Unit) (Name := ℕ) (U := Acct) (Lvl := ℕ) Pipeline.Prefetch.none cfg0.spec c (fun b => m ((c : Thread nD τ).loc b)) : sProp 𝕄)
      = iprop(xAt m c ∗ outAt c (m ((c : Thread nD τ).loc main_v1))) :=
    (Pipeline.unscopedRestP_none _ c _).trans (unscopedRest0_eq c _)
  rw [rest]
  iintro ⟨⟨Hx, Ho⟩, Hlev, Hcr, -, HS⟩
  ihave Hd := (dues (F := F) sw c) $$ Hcr
  imodintro
  unfold start
  isplitl
  · isplitl [HS]; · iexact HS
    isplitl [Hd]; · iexact Hd
    isplitl [Hlev]; · iexact Hlev
    isplitl [Hx]; · iexact Hx
    iexists _; iexact Ho
  · iempintro

theorem enter (c : Dev nD) :
    iprop(start sw m c ∗ Pipeline.prefHeld Pipeline.Prefetch.none c (fun _ => fullShare.right) (fun k => k.elim0) ∗ Pipeline.scopedRest cfg0.spec c)
      ⊢ (dats sw m 0 c).Φ 0 := by
  rw [show (dats sw m 0 c).Φ 0 = start sw m c from rfl]
  iintro ⟨H, -, -⟩; iexact H

/-- What a device is left with: its barrier semaphore at zero, its block of `x`, its result. -/
def left (c : Dev nD) : sProp 𝕄 := iprop(unscopedSems0 c ∗ xAt m c ∗ outAt c (resultOf sw m c))

theorem leave (c : Dev nD) :
    (dats sw m 0 c).Φ (Fin.last cfg0.N) ⊢ iprop(left sw m c ∗ Pipeline.ownSems0 ownSem c ∗ Pipeline.scopedRest cfg0.spec c) := by
  rw [show (dats sw m 0 c).Φ (Fin.last cfg0.N) = finish sw m c from rfl,
    show (Pipeline.scopedRest (Ix := Unit) (Name := ℕ) (U := Acct) (Lvl := ℕ) (Val := Elt F) cfg0.spec c : sProp 𝕄) = BI.emp from scopedRest0_eq c, own_sems]
  unfold finish left
  rw [free_sems]
  iintro ⟨Hx, Ho, Hb, Hs, Hr⟩
  isplitl [Hx Ho Hb]
  · isplitl [Hb]; · iexact Hb
    isplitl [Hx] <;> iassumption
  isplitl [Hs Hr]
  · isplitl [Hs] <;> iassumption
  iempintro

/-- What a final state must show for device `c`. -/
def Shows (c : Dev nD) (s : MemSt nD τ sig (Elt F)) : Prop :=
  s.mem ((c : Thread nD τ).loc main_arg0) = m ((c : Thread nD τ).loc main_arg0) ∧ s.mem ((c : Thread nD τ).loc main_v1) = resultOf sw m c
    ∧ ∀ sm : SemLoc sig, sm.isScoped .tc = false → s.sem ((c.tc : Thread nD τ), sm) = 0

omit [FloatOps F] in
theorem read_off (c : Dev nD) (s : Phys nD τ sig (Elt F)) :
    iprop(left sw m c ∗ emp ∗ SI s) ⊢ |={Set.univ}=> iprop(⌜Shows sw m c s.mem⌝ ∗ SI s : sProp 𝕄) := by
  unfold left xAt outAt
  iintro ⟨⟨Hu, Hx, Ho⟩, -, HSI⟩
  imod (Pipeline.unscopedSems0_read (X := (unscopedSems0 c : sProp 𝕄)) (c := c) fupd_intro s) $$ [Hu HSI] with ⟨%hz, HSI⟩
  · isplitl [Hu] <;> iassumption
  icombine HSI Hx gives %hx
  icombine HSI Ho gives %ho
  imodintro
  isplitr
  · ipureintro
    exact ⟨funext fun i => hx i (Finset.mem_univ i), funext fun i => ho i (Finset.mem_univ i), hz⟩
  iexact HSI

theorem staging_waits (c : Dev nD) : (levAts marks height : sProp 𝕄) ⊢ Pipeline.cellsWaits cfgs (dats sw m) () 0 c :=
  Pipeline.cellsWaits_intro cfgs (dats sw m) () 0 c fun w s t =>
    may_wait_staging sw c _ (by fin_cases w <;> fin_cases s <;> decide) _ (by
      rcases t with ⟨_ | _, ht⟩
      · exact .inl rfl
      · exact .inr rfl)

/-! ## The run -/

set_option maxRecDepth 8000 in
/-- From any memory whose tables agree with `sw`, with all semaphores at zero: the eight devices terminate together, in
    every final state each result buffer holds its partner's block of `x`, both arguments are unchanged, and every
    semaphore is at zero. -/
theorem run_main (hT : TableOK sw m) :
    θ_run defs (onTc (τ := τ) (main (F := F))) ⟨m, fun _ => 0, ρ⟩ (fun r =>
      (∀ c : Dev nD, r.2.mem ((c : Thread nD τ).loc main_v1) = resultOf sw m c
          ∧ r.2.mem ((c : Thread nD τ).loc main_arg0) = m ((c : Thread nD τ).loc main_arg0)
          ∧ r.2.mem ((c : Thread nD τ).loc main_arg1) = m ((c : Thread nD τ).loc main_arg1))
        ∧ r.2.sem = fun _ => 0) :=
  Pipeline.θ_run_region_owing_glob_pf (fun p => (cfgs p).toPCfg) (fun p => (cfgs p).toPCfg_adm) (dats sw m) () cellOf_inj (0 : Fin 1)
    winFacts0.to₀ own_facts (Pipeline.PreFacts.none _) pipeE defs₀ vars m ρ main
    (hmain := fun _ => rfl)
    (hbody := fun c => (body_meets sw m hT c).loose) (hne := block_pos0) (harr := arr_whole0) (hstage := stage_whole0) (hshare := share_full sw m)
    (hdistinct := winFacts0.arr_inj)
    (O₀ := owedAtLaunch sw) (howed₀ := fun _ => rfl) (howedN := fun _ => rfl)
    (L := marks) (lv := height) (hL := fun _ hg => if_neg hg) (hwaits := staging_waits sw m)
    (G := minted sw m) (G' := share sw m) (u₀ := acct₀)
    (hu₀ := by
      unfold acct₀
      iintro Hu
      ihave H := (ownU_pair _ _) $$ Hu
      icases H with ⟨HP, HX⟩
      imod (mint sw m) $$ HX with HG
      imodintro
      isplitl [HP] <;> iassumption)
    (hglob := launch_shares sw m)
    (hA := fun _ _ => rfl) (hpf := fun _ k => k.elim0)
    (X := start sw m) (Y := left sw m) (Z := fun _ => iprop(emp))
    (hX := to_start sw m ρ) (hin := enter sw m) (hout := leave sw m)
    (QY := Shows sw m) (hY := read_off sw m)
    (hQ := fun s h hs => ⟨fun c => ⟨(h c).2.2.2.1, (h c).2.2.1, ((h c).1 0).trans ((dats (F := F) sw m 0 c).arrAt_in 0 rfl _)⟩,
      sem_eq_zero hs fun c => (h c).2.2.2.2⟩)

end Cert.KernelIdeal.Perm

end
-- ==== Proof.Value.lean ====
/-
# The reference at the two tables, and the preconditions read

The reference sorts the positions of `pi` by value and gathers the blocks of `x` in that order. For a table of two
places in any order that is the table itself (both permutations of two places are their own inverses), so block `p` of
the result is the block of `x` that the partner of a device in place `p` holds.
-/
module

public import proofs.«01_k».proof.Defs

public import proofs.«01_k».proof.Proof.Gen.ReferenceIdeal.Run
public import Idealize.ShloMosaic.Lib.WordCmp

@[expose] public section

noncomputable section

namespace Cert.PermValue

open Cert.ReferenceIdeal Cert.ReferenceIdeal.Gen
open Idealize.ShloMosaic

/-- The table that exchanges the two places (`true`), and the one that keeps them (`false`). -/
def tableOf (sw : Bool) : IVec S2 32 := fun i => BitVec.ofNat 32 (if sw then 1 - (i 0).val else (i 0).val)

/-- The order in which the reference gathers, as it computes it from its table. -/
def order (pi : IVec S2 32) : IVec S2 32 :=
  let at' : IVec S2 32 := (Host.sort2 S2 0 comparator_i32_i32_d0 pi (iotaInDim S2 32 0)).2
  select (cmpi .slt at' (broadcastInDim S2 ![] bcast_S_S2 (constantI S_ 32 0#32))) (addi at' (broadcastInDim S2 ![] bcast_S_S2 (constantI S_ 32 2#32))) at'

/-- It is the table again. -/
theorem order_tableOf (sw : Bool) : order (tableOf sw) = tableOf sw := by
  revert sw; decide

/-- The reference's result. -/
def result {α : Type} (x : S2x4096x2048.Idx → α) (pi : IVec S2 32) : S2x4096x2048.Idx → α :=
  Host.gather gather_S2x4096x2048_S2x1_S2x4096x2048_12_0_n_n_0_1_140962048 x (broadcastInDim S2x1 ![0] bcast_S2_S2x1_0 (order pi))

abbrev dims := gather_S2x4096x2048_S2x1_S2x4096x2048_12_0_n_n_0_1_140962048

/-- Where the gather reads: in the block that its table names, at the same place of the block. -/
theorem operandIdx_val (j : S2x4096x2048.Idx) (idx : IVec S2x1 32) :
    (dims.operandIdx j idx 0).val = min (idx fun | ⟨0, _⟩ => j 0 | ⟨1, _⟩ => (0 : Fin 1)).toInt.toNat 1
      ∧ (dims.operandIdx j idx 1).val = (j 1).val ∧ (dims.operandIdx j idx 2).val = (j 2).val := by
  have start0 : dims.start j idx 0 = min (idx fun | ⟨0, _⟩ => j 0 | ⟨1, _⟩ => (0 : Fin 1)).toInt.toNat 1 := by
    unfold GatherDims.start
    rw [dif_pos (by decide)]
    show min (idx _).toInt.toNat 1 = _
    congr 3
    refine congrArg idx (funext fun b => Fin.ext ?_)
    fin_cases b <;> rfl
  have start1 : dims.start j idx 1 = 0 := dif_neg (by decide)
  have start2 : dims.start j idx 2 = 0 := dif_neg (by decide)
  have off0 : dims.offCoord j 0 = 0 := dif_neg (by decide)
  have off1 : dims.offCoord j 1 = (j 1).val := (dif_pos (by decide)).trans rfl
  have off2 : dims.offCoord j 2 = (j 2).val := (dif_pos (by decide)).trans rfl
  have batch (a) : dims.batchCoord j a = 0 := dims.batchCoord_eq_zero j a List.not_mem_nil
  refine ⟨?_, ?_, ?_⟩
  · show dims.start j idx 0 + dims.batchCoord j 0 + dims.offCoord j 0 = _
    rw [start0, batch, off0]; rfl
  · show dims.start j idx 1 + dims.batchCoord j 1 + dims.offCoord j 1 = _
    rw [start1, batch, off1, Nat.zero_add]
  · show dims.start j idx 2 + dims.batchCoord j 2 + dims.offCoord j 2 = _
    rw [start2, batch, off2, Nat.zero_add]

/-- The word of the table `sw` at place `p`, read as a block number. -/
theorem word_of (sw : Bool) (p : Fin 2) :
    min (BitVec.ofNat 32 (if sw then 1 - p.val else p.val)).toInt.toNat 1 = if sw then 1 - p.val else p.val := by
  revert sw p; decide

/-- Entry `j` of the result is the entry of `x` in the block that the table names. -/
theorem result_idx (sw : Bool) (j : S2x4096x2048.Idx) :
    (dims.operandIdx j (broadcastInDim S2x1 ![0] bcast_S2_S2x1_0 (order (tableOf sw))) 0).val = if sw then 1 - (j 0).val else (j 0).val := by
  rw [order_tableOf, (operandIdx_val j _).1]
  exact word_of sw (j 0)

/-- The device whose block of `x` ends on device `c`. -/
abbrev source (sw : Bool) (c : Fin 8) : Fin 8 := if sw then ⟨(c.val + 4) % 8, Nat.mod_lt _ (by decide)⟩ else c

/-- The block of an array on device `c`: half of it, by the device's place on the first mesh axis. -/
abbrev blockOf {α : Type} (c : Fin 8) (v : S2x4096x2048.Idx → α) : (⟨3, ![1, 4096, 2048]⟩ : Shape).Idx → α :=
  Layout.blockN ⟨3, ![1, 4096, 2048]⟩ ⟨3, ![2, 4096, 2048]⟩ (Layout.meshBlock [2, 2, 2] ![[0], [], []] c) v

/-- The place in the whole array of entry `i` of device `c`'s block. -/
abbrev spot (c : Fin 8) (i : (⟨3, ![1, 4096, 2048]⟩ : Shape).Idx) : S2x4096x2048.Idx :=
  Layout.TilesN.idx (T := ⟨3, ![2, 4096, 2048]⟩) (by decide) (Layout.meshBlock [2, 2, 2] ![[0], [], []] c) i

theorem spot_0 (c : Fin 8) (i) : (spot c i 0).val = c.val / 4 := by
  have hi : (i 0).val < 1 := (i 0).isLt
  have at0 : Layout.meshLin [2, 2, 2] c.val [0] = c.val / 4 := by revert c; decide
  show Layout.meshLin [2, 2, 2] c.val [0] * 1 + (i 0).val = _
  omega
theorem spot_1 (c : Fin 8) (i) : (spot c i 1).val = (i 1).val := by
  show 0 * 4096 + (i 1).val = _
  omega
theorem spot_2 (c : Fin 8) (i) : (spot c i 2).val = (i 2).val := by
  show 0 * 2048 + (i 2).val = _
  omega

theorem source_place (sw : Bool) (c : Fin 8) : (if sw then 1 - c.val / 4 else c.val / 4) = (source sw c).val / 4 := by
  revert c sw; decide

/-- **The reference, block by block.** Device `c`'s block of the result is its source's block of `x`. -/
theorem blockOf_result {α : Type} (sw : Bool) (c : Fin 8) (x : S2x4096x2048.Idx → α) :
    blockOf c (result x (tableOf sw)) = blockOf (source sw c) x := by
  funext i
  show x (dims.operandIdx (spot c i) _) = x (spot (source sw c) i)
  refine congrArg x (funext fun b => Fin.ext ?_)
  match b with
  | 0 => rw [spot_0, result_idx, spot_0, source_place]
  | 1 => exact (operandIdx_val _ _).2.1.trans ((spot_1 c i).trans (spot_1 _ i).symm)
  | 2 => exact (operandIdx_val _ _).2.2.trans ((spot_2 c i).trans (spot_2 _ i).symm)

/-! ## The preconditions -/

/-- A table equal word by word to `t` is `t`. -/
theorem eq_of_cmpi {n : Nat} {s : Shape} {pi t : IVec s n} (h : cmpi .eq pi t = fun _ => 1#1) : pi = t := by
  funext i
  have hi : IntOp.cmpi .eq (pi i) (t i) = 1#1 := congrFun h i
  rw [WordCmp.cmpi_eq_eq] at hi
  by_contra hne
  rw [decide_eq_false hne] at hi
  exact absurd hi (by decide)

variable {F : FTy → Type} [FloatOps F]

theorem of_swaps [Cert.Pre_pi_swaps_Kernel.Facts] {x : FVec F Cert.Pre_pi_swaps_Kernel.S1x4096x2048 .f32} {pi : IVec S2 32}
    (h : Cert.Pre_pi_swaps_Kernel.fn x pi = fun _ => 1#1) : pi = tableOf true :=
  (eq_of_cmpi h).trans (by decide)

theorem of_stays [Cert.Pre_pi_stays_Kernel.Facts] {x : FVec F Cert.Pre_pi_stays_Kernel.S1x4096x2048 .f32} {pi : IVec S2 32}
    (h : Cert.Pre_pi_stays_Kernel.fn x pi = fun _ => 1#1) : pi = tableOf false :=
  (eq_of_cmpi h).trans (by decide)

/-- The word that a device reads names the place of its partner. -/
theorem tableOf_place (sw : Bool) (c : Fin 8) : BitVec.ofNat 32 (if sw then 1 - c.val / 4 else c.val / 4) = BitVec.ofNat 32 ((source sw c).val / 4) := by
  rw [source_place]

end Cert.PermValue
end
-- ==== Proof.lean ====
/-
# The claims, put together

* The frames and the value claims of the kernel are its run (`Proof/RunIdeal.lean`, and the same text at the printed
  bits in `Proof/RunBits.lean`), from the table that the precondition pins down.
* The reference's frames are its generated run; it has no semaphore.
* The value claims add that the reference's result, cut into blocks, is the partners' blocks of `x`
  (`Proof/Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RunIdeal
public import proofs.«01_k».proof.Proof.RunBits
public import proofs.«01_k».proof.Proof.Value
public import Idealize.ShloMosaic.Lib.Quiescent

@[expose] public section

noncomputable section

namespace Cert.Proof

open Idealize.ShloMosaic Idealize.SL.Sem Cert.PermValue

/-! ## The kernel at the printed bits -/

section Bits

open Cert.Kernel Cert.Kernel.Gen

variable {F : FTy → Type} [FloatOps F]

/-- Where every device holds the table `sw`, every device's word names its partner. -/
theorem tableOK_bits (sw : Bool) (m : (ℓ : Loc nD τ sig) → Buf (Elt F) ℓ) (h : ∀ c : Dev nD, m ((c.tc : Thread nD τ).loc main_arg1) = tableOf sw) :
    Perm.TableOK sw m := fun c =>
  (congrFun (h c) (Perm.place c)).trans (tableOf_place sw c)

theorem frame_bits (sw : Bool) (m : (ℓ : Loc nD τ sig) → Buf (Elt F) ℓ) (g : Dev nD → PrngReg)
    (h : ∀ c : Dev nD, m ((c.tc : Thread nD τ).loc main_arg1) = tableOf sw) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun _ H => ⟨fun c => (H.1 c).2, H.2⟩) (Perm.run_main sw m g (tableOK_bits sw m h))

end Bits

/-! ## The kernel at ideal values -/

section Values

open Cert.KernelIdeal Cert.KernelIdeal.Gen

variable {F : FTy → Type} [FloatOps F]

theorem tableOK (sw : Bool) (m : (ℓ : Loc nD τ sig) → Buf (Elt F) ℓ) (h : ∀ c : Dev nD, m ((c.tc : Thread nD τ).loc main_arg1) = tableOf sw) :
    Perm.TableOK sw m := fun c =>
  (congrFun (h c) (Perm.place c)).trans (tableOf_place sw c)

theorem frame_ideal (sw : Bool) (m : (ℓ : Loc nD τ sig) → Buf (Elt F) ℓ) (g : Dev nD → PrngReg)
    (h : ∀ c : Dev nD, m ((c.tc : Thread nD τ).loc main_arg1) = tableOf sw) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun _ H => ⟨fun c => (H.1 c).2, H.2⟩) (Perm.run_main sw m g (tableOK sw m h))

/-- From the blocks of a whole array `x` under the table `sw`, the blocks of the reference's result. -/
theorem run_blocks (sw : Bool) (m : (ℓ : Loc nD τ sig) → Buf (Elt F) ℓ) (g : Dev nD → PrngReg)
    (x : Cert.ReferenceIdeal.S2x4096x2048.Idx → F .f32)
    (hx : ∀ c : Dev nD, m ((c.tc : Thread nD τ).loc main_arg0) = blockOf c x)
    (h : ∀ c : Dev nD, m ((c.tc : Thread nD τ).loc main_arg1) = tableOf sw) :
    θ_run (defs (F := F)) (onTc (τ := τ) (main (F := F))) ⟨m, fun _ => 0, g⟩ (fun r =>
      ∀ c : Dev nD, r.2.mem ((c.tc : Thread nD τ).loc main_v1) = blockOf c (result x (tableOf sw))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ H c => ⟨(H.1 c).1.trans ((hx (Perm.partner sw c)).trans (blockOf_result sw c x).symm), (H.1 c).2⟩)
    (Perm.run_main sw m g (tableOK sw m h))

end Values

/-! ## The reference -/

section Reference

open Cert.ReferenceIdeal Cert.ReferenceIdeal.Gen

variable {F : FTy → Type} [FloatOps F]

theorem frame_reference (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun r H => ⟨fun c => (H c).2, sem_eq_zero_of_no_sems (by decide) r.2⟩) (Value.run m g)

theorem run_reference (m : (ℓ : Loc nD τ sig) → Buf (Elt F) ℓ) (g : Dev nD → PrngReg) :
    θ_run (defs (F := F)) (onTc (τ := τ) (main (F := F))) ⟨m, fun _ => 0, g⟩ (fun r =>
      r.2.mem (((0 : Dev nD).tc : Thread nD τ).loc main_v7)
          = result (m (((0 : Dev nD).tc : Thread nD τ).loc main_arg0)) (m (((0 : Dev nD).tc : Thread nD τ).loc main_arg1))
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1)) :=
  (θ_run _ _ _).mono (fun _ H => H 0) (Value.run m g)

end Reference

/-! ## The claims -/

instance : Cert.Pre_pi_swaps_Kernel.Facts := ⟨⟩
instance : Cert.Pre_pi_stays_Kernel.Facts := ⟨⟩

theorem claim : Cert.Claim := by
  refine ⟨Cert.Kernel.Gen.facts, Cert.KernelIdeal.Gen.facts, Cert.ReferenceIdeal.Gen.facts, ⟨⟩, ⟨⟩, ⟨⟩, ⟨⟩, ?_, ?_, ?_, ?_, ?_, ?_, ?_, trivial, ?_, ?_⟩
  · exact fun m g h => frame_bits true m g fun c => of_swaps (h c)
  · exact fun m g h => frame_bits false m g fun c => of_stays (h c)
  · exact fun m g h => frame_ideal true m g fun c => of_swaps (h c)
  · exact fun m g h => frame_ideal false m g fun c => of_stays (h c)
  · exact fun m g _ => frame_reference m g
  · exact fun m g _ => frame_reference m g
  · exact fun m g _ => frame_reference m g
  · intro m g m' g' h hm
    have table : ∀ c : Dev Cert.KernelIdeal.nD, m ((c.tc : Thread Cert.KernelIdeal.nD Cert.KernelIdeal.τ).loc Cert.KernelIdeal.main_arg1) = tableOf true := fun c => of_swaps (h c)
    have whole := (hm 0).2.symm.trans (table 0)
    exact ⟨_, whole ▸ run_blocks true m g _ (fun c => (hm c).1) table, run_reference m' g'⟩
  · intro m g m' g' h hm
    have table : ∀ c : Dev Cert.KernelIdeal.nD, m ((c.tc : Thread Cert.KernelIdeal.nD Cert.KernelIdeal.τ).loc Cert.KernelIdeal.main_arg1) = tableOf false := fun c => of_stays (h c)
    have whole := (hm 0).2.symm.trans (table 0)
    exact ⟨_, whole ▸ run_blocks false m g _ (fun c => (hm c).1) table, run_reference m' g'⟩

end Cert.Proof

end
